-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S128x1024x256 : Shape := ⟨3, ![128, 1024, 256]⟩
abbrev S1x1024x256 : Shape := ⟨3, ![1, 1024, 256]⟩
abbrev S_ : Shape := ⟨0, ![]⟩
abbrev S127x1024x256 : Shape := ⟨3, ![127, 1024, 256]⟩

abbrev nBuf : Space → Nat
  | .hbm => 4
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S128x1024x256, .f32⟩
  | .hbm, ⟨2, _⟩ => ⟨S1x1024x256, .f32⟩
  | .hbm, ⟨3, _⟩ => ⟨S128x1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

abbrev grid0 : Pipeline.Grid := .none
-- ==== ReferenceIdeal.lean ====
abbrev S1024x256 : Shape := ⟨2, ![1024, 256]⟩
abbrev S128x1024x256 : Shape := ⟨3, ![128, 1024, 256]⟩
abbrev S127x1024x256 : Shape := ⟨3, ![127, 1024, 256]⟩
abbrev S1x1024x256 : Shape := ⟨3, ![1, 1024, 256]⟩
abbrev S_ : Shape := ⟨0, ![]⟩
abbrev S1 : Shape := ⟨1, ![1]⟩

abbrev nBuf : Space → Nat
  | .hbm => 8
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S128x1024x256, .f32⟩
  | .hbm, ⟨2, _⟩ => ⟨S127x1024x256, .f32⟩
  | .hbm, ⟨3, _⟩ => ⟨S1x1024x256, .f32⟩
  | .hbm, ⟨4, _⟩ => ⟨S128x1024x256, .f32⟩
  | .hbm, ⟨5, _⟩ => ⟨S_, .i32⟩
  | .hbm, ⟨6, _⟩ => ⟨S1, .i32⟩
  | .hbm, ⟨7, _⟩ => ⟨S128x1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Proof.Roll.lean ====
/-
  The function that the kernel and the reference compute: a `[128, 1024, 256]` array moved one place towards the front along
  its first axis, with a `[1024, 256]` row put in the last place. Nothing here names a program: the element type is arbitrary.
-/
module

public import Idealize.ShloMosaic.Lib.Pointwise
public import Idealize.ShloMosaic.Lib.Routing.OpsSet
public import Idealize.ShloMosaic.Lib.ViewIndex

@[expose] public section

namespace Cert.Roll

open Idealize.ShloMosaic

/-- The buffer's shape. -/
abbrev SBuf : Shape := ⟨3, ![128, 1024, 256]⟩
/-- The new row's shape. -/
abbrev SRow : Shape := ⟨2, ![1024, 256]⟩
/-- The new row's shape as a block of the buffer's. -/
abbrev SRow1 : Shape := ⟨3, ![1, 1024, 256]⟩
/-- The shape of the rows that are kept. -/
abbrev SKept : Shape := ⟨3, ![127, 1024, 256]⟩
/-- The shape of one index word. -/
abbrev SWord : Shape := ⟨1, ![1]⟩

variable {α : Type}

/-- The rolled buffer: entry `i` of the first 127 places is entry `i + 1` of the buffer, and the last place is the new row. -/
def rolled (x : SRow.Idx → α) (buf : SBuf.Idx → α) : SBuf.Idx → α := fun i =>
  if h : (i 0).val < 127 then buf (ix3 ⟨(i 0).val + 1, Nat.succ_lt_succ h⟩ (i 1) (i 2)) else x (ix2 (i 1) (i 2))

/-- In the first 127 places the rolled buffer reads the buffer one place further on. -/
theorem rolled_of_lt (x : SRow.Idx → α) (buf : SBuf.Idx → α) (i : SBuf.Idx) (h : (i 0).val < 127) :
    rolled x buf i = buf (ix3 ⟨(i 0).val + 1, Nat.succ_lt_succ h⟩ (i 1) (i 2)) := dif_pos h

/-- In the last place the rolled buffer reads the new row. -/
theorem rolled_of_not_lt (x : SRow.Idx → α) (buf : SBuf.Idx → α) (i : SBuf.Idx) (h : ¬ (i 0).val < 127) :
    rolled x buf i = x (ix2 (i 1) (i 2)) := dif_neg h

/-- The new row as a block of one row, read at an index of the row, is the row. -/
theorem row_of_block (x : SRow.Idx → α) (h : SRow.ShapeCasts SRow1) (a : Fin 1024) (b : Fin 256) :
    shapeCast SRow1 x h (ix3 (0 : Fin 1) a b) = x (ix2 a b) := by
  pointwise

/-- A scatter of one whole row at the index word 127 lands update `j` at place 127. -/
theorem lands_last (d : ScatterDims SBuf SWord SRow) (hu : d.updateWindowDims = [0, 1]) (hi : d.insertedWindowDims = [0])
    (hs : d.scatterDimsToOperandDims = [0]) (idx : IVec SWord 32) (hidx : ∀ k, (idx k).toInt = 127) (j : SRow.Idx) :
    d.resultIdx? j idx = some (ix3 (127 : Fin 128) (j 0) (j 1)) := by
  obtain ⟨ud, iw, sd, iv, wf⟩ := d
  dsimp only at hu hi hs
  subst hu hi hs
  set d : ScatterDims SBuf SWord SRow := ⟨[0, 1], [0], [0], iv, wf⟩ with hd
  have s0 : d.start j idx 0 = 127 := by
    unfold ScatterDims.start
    rw [dif_pos (List.mem_singleton.2 rfl)]
    exact hidx _
  have at0 : d.start j idx 0 + (d.window j 0 : Int) = ((127 : ℕ) : Int) := by
    rw [s0]; rfl
  have at1 : d.start j idx 1 + (d.window j 1 : Int) = ((j 0).val : Int) := Int.zero_add _
  have at2 : d.start j idx 2 + (d.window j 2 : Int) = ((j 1).val : Int) := Int.zero_add _
  have all : ∀ a : Fin 3, d.start j idx a + (d.window j a : Int) = ((ix3 (127 : Fin 128) (j 0) (j 1) : SBuf.Idx) a).val
    | ⟨0, _⟩ => at0
    | ⟨1, _⟩ => at1
    | ⟨2, _⟩ => at2
  unfold ScatterDims.resultIdx?
  rw [dif_pos fun a => by
    rw [all a]
    exact ⟨Int.natCast_nonneg _, Int.ofNat_lt.2 ((ix3 (127 : Fin 128) (j 0) (j 1) : SBuf.Idx) a).isLt⟩]
  exact congrArg some (funext fun a => Fin.ext ((congrArg Int.toNat (all a)).trans (Int.toNat_natCast _)))

/-- The scatter that puts one whole row at the index word 127, read at an entry: the row in the last place, the operand elsewhere. -/
theorem scatter_last (d : ScatterDims SBuf SWord SRow) (hu : d.updateWindowDims = [0, 1]) (hi : d.insertedWindowDims = [0])
    (hs : d.scatterDimsToOperandDims = [0]) (x0 : SBuf.Idx → α) (idx : IVec SWord 32) (hidx : ∀ k, (idx k).toInt = 127)
    (upd : SRow.Idx → α) (i : SBuf.Idx) :
    Host.scatter d (fun _ b => b) x0 idx upd i = if (i 0).val < 127 then x0 i else upd (ix2 (i 1) (i 2)) := by
  have b0 : (i 0).val < 128 := (i 0).isLt
  by_cases h : (i 0).val < 127
  · rw [if_pos h]
    refine Routing.scatter_set_miss d x0 idx upd i fun k hk => ?_
    rw [lands_last d hu hi hs idx hidx k] at hk
    have e : (127 : ℕ) = (i 0).val := congrArg (fun t : SBuf.Idx => (t 0).val) (Option.some.inj hk)
    omega
  · rw [if_neg h]
    have land : d.resultIdx? (ix2 (i 1) (i 2)) idx = some i := by
      rw [lands_last d hu hi hs idx hidx]
      refine congrArg some (Shape.idx3_ext ?_ rfl rfl)
      show 127 = (i 0).val
      omega
    refine Routing.scatter_set_hit d x0 idx upd i _ (fun k hk => congrArg upd ?_) (ix2 (i 1) (i 2)) land
    rw [lands_last d hu hi hs idx hidx k] at hk
    have e := Option.some.inj hk
    rw [← e]
    exact ValueIdx.eq_ix2 k

/-- The reference's term: the buffer cut after its first row, the two parts exchanged and the row put in the last place by the
    scatter is the rolled buffer. -/
theorem reference_eq_rolled (d : ScatterDims SBuf SWord SRow) (hu : d.updateWindowDims = [0, 1]) (hi : d.insertedWindowDims = [0])
    (hs : d.scatterDimsToOperandDims = [0]) (idx : IVec SWord 32) (hidx : ∀ k, (idx k).toInt = 127)
    (x : SRow.Idx → α) (buf : SBuf.Idx → α) (h1 : SBuf.Slices ![1, 0, 0] SKept) (h2 : SBuf.Slices ![0, 0, 0] SRow1)
    (h : Shape.Concatenates [SKept, SRow1] SBuf 0) :
    Host.scatter d (fun _ b => b) (concatenate SBuf 0 [⟨SKept, extractStridedSlice SKept ![1, 0, 0] buf h1⟩,
      ⟨SRow1, extractStridedSlice SRow1 ![0, 0, 0] buf h2⟩] h) idx x = rolled x buf := by
  funext i
  rw [scatter_last d hu hi hs _ idx hidx]
  by_cases hlt : (i 0).val < 127
  · rw [if_pos hlt, rolled_of_lt x buf i hlt]
    pointwise
    rw [dif_pos hlt]
    exact congrArg buf (Shape.idx3_ext (Nat.add_comm 1 _) rfl rfl)
  · rw [if_neg hlt, rolled_of_not_lt x buf i hlt]

end Cert.Roll
-- ==== Proof.Body.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Routed
public import Idealize.ShloMosaic.Lib.Tactic
public import Idealize.ShloMosaic.Lib.WritesUnit
public import proofs.«01_k».proof.Proof.Roll

@[expose] public section

noncomputable section

namespace Cert.Kernel.Roll

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (Pipeline.UC sig nD τ) ℕ

abbrev xM : Memref sig .tc .hbm S1x1024x256 .f32 := Memref.whole main_v0
abbrev bufM : Memref sig .tc .hbm S128x1024x256 .f32 := Memref.whole main_arg1
abbrev outM : Memref sig .tc .hbm S128x1024x256 .f32 := Memref.whole main_v1

abbrev held (c : Dev nD) {S : Shape} (M : Memref sig .tc .hbm S .f32) (f : Buf (Elt F) (M.view.loc (c : Thread nD τ))) : sProp 𝕄 :=
  M.view.loc (c : Thread nD τ) ↦{fullShare} f

/-- Entry `i` of the two transfers' pieces, in the first 127 places. -/
theorem pieces_of_lt (f : (outM.view).ty.Contents (Elt F)) (w1 : S1x1024x256.Idx → Elt F .f32) (w2 : S127x1024x256.Idx → Elt F .f32)
    (i : S128x1024x256.Idx) (h : (i 0).val < 127) :
    outM.view.read (Elt F) (outM.view.writes (Elt F) f
        [⟨Rect.unit ![127, 0, 0] S1x1024x256.size inb_S128x1024x256_S1x1024x256_127_0_0, w1⟩,
          ⟨Rect.unit ![0, 0, 0] S127x1024x256.size inb_S128x1024x256_S127x1024x256_0_0_0, w2⟩]) i = w2 (ix3 (⟨(i 0).val, h⟩ : Fin 127) (i 1) (i 2)) := by
  refine (View.read_writes_cons_unit_of_not_mem outM.view f _ _ _ i rfl 0 (Or.inl h)).trans ?_
  exact View.read_writes_cons_unit_of_mem outM.view f _ _ _ i (ix3 (⟨(i 0).val, h⟩ : Fin 127) (i 1) (i 2)) rfl (fun a => by
        match a with
        | ⟨0, _⟩ => exact (Nat.zero_add _).symm
        | ⟨1, _⟩ => exact (Nat.zero_add _).symm
        | ⟨2, _⟩ => exact (Nat.zero_add _).symm)

/-- Entry `i` of the two transfers' pieces, in the last place. -/
theorem pieces_of_not_lt (f : (outM.view).ty.Contents (Elt F)) (w1 : S1x1024x256.Idx → Elt F .f32) (L)
    (i : S128x1024x256.Idx) (h : ¬ (i 0).val < 127) :
    outM.view.read (Elt F) (outM.view.writes (Elt F) f
        (⟨Rect.unit ![127, 0, 0] S1x1024x256.size inb_S128x1024x256_S1x1024x256_127_0_0, w1⟩ :: L)) i = w1 (ix3 (0 : Fin 1) (i 1) (i 2)) := by
  have b0 : (i 0).val < 128 := (i 0).isLt
  have e0 : (i 0).val = 127 := by omega
  exact View.read_writes_cons_unit_of_mem outM.view f _ _ _ i (ix3 (0 : Fin 1) (i 1) (i 2)) rfl (fun a => by
        match a with
        | ⟨0, _⟩ => exact e0
        | ⟨1, _⟩ => exact (Nat.zero_add _).symm
        | ⟨2, _⟩ => exact (Nat.zero_add _).symm)

/-- The two transfers' pieces of the result, read at an entry: the rolled buffer. -/
theorem read_pieces (f : (outM.view).ty.Contents (Elt F)) (x : S1x1024x256.Idx → Elt F .f32) (buf : S128x1024x256.Idx → Elt F .f32)
    (i : S128x1024x256.Idx) :
    outM.view.read (Elt F) (outM.view.writes (Elt F) f
        [⟨Rect.unit ![127, 0, 0] S1x1024x256.size inb_S128x1024x256_S1x1024x256_127_0_0, xM.view.read (Elt F) x⟩,
          ⟨Rect.unit ![0, 0, 0] S127x1024x256.size inb_S128x1024x256_S127x1024x256_0_0_0,
            (bufM.slice (Rect.unit ![1, 0, 0] S127x1024x256.size inb_S128x1024x256_S127x1024x256_1_0_0) (fun _ => rfl)).view.read (Elt F) buf⟩]) i
      = Cert.Roll.rolled (fun i => x (ix3 (0 : Fin 1) (i 0) (i 1))) buf i := by
  by_cases h : (i 0).val < 127
  · rw [pieces_of_lt f _ _ i h, Cert.Roll.rolled_of_lt _ _ i h]
    show buf _ = buf _
    refine congrArg buf (Shape.idx3_ext ?_ ?_ ?_)
    · show 1 + 1 * (i 0).val = (i 0).val + 1
      omega
    · show 0 + 1 * (i 1).val = (i 1).val
      omega
    · show 0 + 1 * (i 2).val = (i 2).val
      omega
  · rw [pieces_of_not_lt f _ _ i h, Cert.Roll.rolled_of_not_lt _ _ i h]
    rfl

/-- The two transfers' pieces of the result are the rolled buffer. -/
theorem pieces_eq_rolled (f : (outM.view).ty.Contents (Elt F)) (x : S1x1024x256.Idx → Elt F .f32) (buf : S128x1024x256.Idx → Elt F .f32) :
    outM.view.writes (Elt F) f
        [⟨Rect.unit ![127, 0, 0] S1x1024x256.size inb_S128x1024x256_S1x1024x256_127_0_0, xM.view.read (Elt F) x⟩,
          ⟨Rect.unit ![0, 0, 0] S127x1024x256.size inb_S128x1024x256_S127x1024x256_0_0_0,
            (bufM.slice (Rect.unit ![1, 0, 0] S127x1024x256.size inb_S128x1024x256_S127x1024x256_1_0_0) (fun _ => rfl)).view.read (Elt F) buf⟩]
      = Cert.Roll.rolled (fun i => x (ix3 (0 : Fin 1) (i 0) (i 1))) buf :=
  (View.read_whole main_v1 _).symm.trans (funext (read_pieces f x buf))

set_option sl_exec.dmaWindow true in
theorem body_run (c : Dev nD)
    (x : Buf (Elt F) (xM.view.loc (c : Thread nD τ))) (buf : Buf (Elt F) (bufM.view.loc (c : Thread nD τ)))
    (o : Buf (Elt F) (outM.view.loc (c : Thread nD τ)))
    (W : Waits sig Unit) (K : PUnit → sProp 𝕄) :
    iprop(held c xM x ∗ held c bufM buf ∗ held c outM o
        ∗ semVal ((c : Thread nD τ), SemLoc.dma 0) 0 ∗ semVal ((c : Thread nD τ), SemLoc.dma 1) 0
        ∗ owes (c : Thread nD τ) 0 W
        ∗ (iprop(held c xM x ∗ held c bufM buf ∗ held c outM (Cert.Roll.rolled (fun i => x (ix3 (0 : Fin 1) (i 0) (i 1))) buf)
            ∗ semVal ((c : Thread nD τ), SemLoc.dma 0) 0 ∗ semVal ((c : Thread nD τ), SemLoc.dma 1) 0
            ∗ ∃ W', owes (c : Thread nD τ) 0 W') -∗ K ⟨⟩))
      ⊢ wp frame (wpE (defs₀ (F := F)) Variants.none c none) Set.univ (bodyAt0 (F := F) t0_0) K := by
  unfold bodyAt0
  simp only [cc0__roll_body_eq_skeleton]; unfold cc0__roll_body_skel
  iintro ⟨Hx, Hb, Ho, Hs0, Hs1, HW, Hk⟩
  sl_exec!
  sl_step
  iapply Hk
  isplitl [Hx]; · iexact Hx
  isplitl [Hb]; · iexact Hb
  isplitl [Ho]
  · rw [← pieces_eq_rolled (F := F) outM.view.junk x buf]
    iexact Ho
  isplitl [Hs0]; · iexact Hs0
  isplitl [Hs1]; · iexact Hs1
  iexists _; iexact HW

end Cert.Kernel.Roll

end
-- ==== Proof.Run.lean ====
/-
  The kernel's run: every weakly fair execution of `Kernel`'s `main` terminates, with the result array at the rolled buffer, the two
  argument arrays as launched and every semaphore counter at zero. The pallas_call stages no window and has no grid: its one body
  call is Body.lean's, and the buffers that the body's two transfers read and write are routed through it
  (`Pipeline.θ_run_frame_routed`). For any float values.
-/
module

public import proofs.«01_k».proof.Proof.Gen.Kernel.Frame
public import proofs.«01_k».proof.Proof.Body

@[expose] public section

noncomputable section

namespace Cert.Kernel.Roll

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The launch's data -/

/-- The kernel's own semaphores: one for each transfer. -/
def osem0 : Fin 2 → SemLoc sig := fun j => (![SemLoc.dma 0, SemLoc.dma 1] : Fin 2 → SemLoc sig) j

/-- They are scoped, distinct and no staging semaphore. -/
theorem ownSemFacts0 : Pipeline.OwnSemFacts cfg0.spec osem0 := by decide

/-- The buffers the body's transfers read and write: the buffer, the reshaped row and the result. -/
def R0 : Finset (Ref sig .tc) := {main_arg1, main_v0, main_v1}

/-- They are unscoped buffers that no window stages. -/
theorem R0_sub : R0 ⊆ Pipeline.restRefs sig cfg0.spec := by decide

/-- What the buffers hold after the body: the result at the rolled buffer, the others as the region finds them. -/
def Y (c : Dev nD) : (b : Ref sig .tc) → Buf (Elt F) ((c : Thread nD τ).loc b) :=
  Function.update (V m c) main_v1 (Cert.Roll.rolled (fun i => (V m c main_v0 : S1x1024x256.Idx → Elt F .f32) (ix3 (0 : Fin 1) (i 0) (i 1))) (V m c main_arg1))

theorem Y_main_v1 (c : Dev nD) : Y m c main_v1
    = Cert.Roll.rolled (fun i => (V m c main_v0 : S1x1024x256.Idx → Elt F .f32) (ix3 (0 : Fin 1) (i 0) (i 1))) (V m c main_arg1) :=
  Function.update_self _ _ _
theorem Y_of_ne (c : Dev nD) (b : Ref sig .tc) (h : b ≠ main_v1) : Y m c b = V m c b := Function.update_of_ne h _ _

/-- The routed buffers, one by one. -/
theorem routed0_eq (c : Dev nD) (W : (b : Ref sig .tc) → Buf (Elt F) ((c : Thread nD τ).loc b)) :
    (Pipeline.routed R0 c W : sProp 𝕄) = iprop(held c bufM (W main_arg1) ∗ held c xM (W main_v0) ∗ held c outM (W main_v1)) := by
  unfold Pipeline.routed
  rw [BI.bigSep_eq_bigSepL_of_eq [main_arg1, main_v0, main_v1] (by decide) (by decide)]
  rfl

/-- The kernel's own semaphores at zero, one by one. -/
theorem ownSems00_eq (c : Dev nD) :
    (Pipeline.ownSems0 osem0 c : sProp 𝕄) = iprop(semVal ((c : Thread nD τ), SemLoc.dma 0) 0 ∗ semVal ((c : Thread nD τ), SemLoc.dma 1) 0) :=
  Pipeline.ownSems0_eq_of_list c osem0 [0, 1] (by decide) (by decide)

/-- The proof data: no window; before the body the routed buffers are as the region finds them, after it the result is rolled. -/
def dats (_ : Fin 1) (c : Dev nD) : Dat τ (Elt F) Unit ℕ (Pipeline.UC sig nD τ) ℕ cfg0 c where
  A w := w.elim0
  after w := w.elim0
  Φ p := Pipeline.Ends cfg0.spec osem0 R0 c (if p.val = 0 then V m c else Y m c)
  q _ := fullShare
  owed _ := 0

/-! ## The body's obligation -/

/-- What the body is called with, and what it gives back. -/
def bodyPre (c : Dev nD) (t : Fin cfg0.N) : sProp 𝕄 := iprop((dats m 0 c).Φ t.castSucc ∗ (dats m 0 c).owesAt () t.castSucc)
def bodyPost (c : Dev nD) (t : Fin cfg0.N) : sProp 𝕄 := iprop((dats m 0 c).Φ t.succ ∗ (dats m 0 c).owesAt () t.succ)

theorem Φ_first (c : Dev nD) : (dats m 0 c).Φ (t0_0 : Fin cfg0.N).castSucc = Pipeline.Ends cfg0.spec osem0 R0 c (V m c) := rfl
theorem Φ_last (c : Dev nD) : (dats m 0 c).Φ (t0_0 : Fin cfg0.N).succ = Pipeline.Ends cfg0.spec osem0 R0 c (Y m c) := rfl

/-- The body's triple at the one point, off `body_run`. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost
  rw [Φ_first, Φ_last]
  unfold Pipeline.Ends
  rw [routed0_eq, routed0_eq, ownSems00_eq, Y_main_v1, Y_of_ne m c main_arg1 (by decide), Y_of_ne m c main_v0 (by decide)]
  unfold Dat.owesAt Pipeline.owesWithin
  rw [show (dats m 0 c).owed (t0_0 : Fin cfg0.N).castSucc = 0 from rfl, show (dats m 0 c).owed (t0_0 : Fin cfg0.N).succ = 0 from rfl]
  iintro ⟨⟨⟨Hb, Hx, Ho⟩, ⟨Hs0, Hs1⟩, Hr, Hg⟩, ⟨%W, -, HW⟩⟩
  iapply (body_run c (V m c main_v0) (V m c main_arg1) (V m c main_v1) W _)
  isplitl [Hx]; · iexact Hx
  isplitl [Hb]; · iexact Hb
  isplitl [Ho]; · iexact Ho
  isplitl [Hs0]; · iexact Hs0
  isplitl [Hs1]; · iexact Hs1
  isplitl [HW]; · iexact HW
  iintro ⟨Hx, Hb, Ho, Hs0, Hs1, ⟨%W', HW'⟩⟩
  isplitr [HW']
  · isplitl [Hx Hb Ho]
    · isplitl [Hb]; · iexact Hb
      isplitl [Hx]; · iexact Hx
      iexact Ho
    isplitl [Hs0 Hs1]
    · isplitl [Hs0]; · iexact Hs0
      iexact Hs1
    isplitl [Hr]; · iexact Hr
    iexact Hg
  iexists W'
  isplitr
  · ipureintro; exact fun _ _ => Or.inl trivial
  iexact HW'

/-- A separating conjunction over the windows, of which there are none. -/
theorem bigSep_W0 (f : Fin cfg0.W → sProp 𝕄) : bigSep Finset.univ f = BI.emp := rfl

/-- The body table's row is the body as printed. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row, bigSep_W0, bigSep_W0]
  exact triple_restated (sound_body m c t) rfl (Laws.sep_mono .rfl Laws.sep_emp.1) fun _ => Laws.sep_mono .rfl Laws.sep_emp.2

/-! ## The run -/

/-- `main` up to the region. -/
theorem hmain' : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

/-- The region finds the reshaped row as the reshape left it. -/
theorem V_main_v0 (c : Dev nD) : V m c main_v0 = shapeCast S1x1024x256 (m ((c : Thread nD τ).loc main_arg0)) shapeCasts_S1024x256_S1x1024x256 := by
  unfold V
  after_results
  rfl

/-- The routed result, in the launch's contents. -/
theorem Y_main_v1_eq (c : Dev nD) :
    Y m c main_v1 = Cert.Roll.rolled (m ((c : Thread nD τ).loc main_arg0)) (m ((c : Thread nD τ).loc main_arg1)) := by
  rw [Y_main_v1, V_main_arg1, V_main_v0]
  refine congrArg (fun x => Cert.Roll.rolled x _) (funext fun i => ?_)
  exact (Cert.Roll.row_of_block _ _ (i 0) (i 1)).trans (congrArg _ (ValueIdx.eq_ix2 i).symm)

set_option backward.isDefEq.respectTransparency.types false in
theorem run_main : θ_run defs (onTc (τ := τ) (main (F := F))) (s₀ m ρ)
    (fun r => Pipeline.RoutedPost cfgs (dats m) 0 R0 (V m) (Y m) r ∧ r.2.sem = fun _ => 0) :=
  Pipeline.θ_run_frame_routed (Q' := _) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain' m) (hA := fun _ w => w.elim0) (R := R0) (hR := R0_sub) (Y := Y m)
    (hin := fun _ => .rfl) (hout := fun _ => .rfl)

/-- THE RUN: the result ends at the rolled buffer, the arguments as launched, every counter at zero. -/
theorem run : θ_run defs (onTc (τ := τ) (main (F := F))) ⟨m, fun _ => 0, ρ⟩ (fun r => (∀ c : Dev nD,
      r.2.mem ((c.tc : Thread nD τ).loc main_v1)
        = Cert.Roll.rolled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2.1 main_v1 (by decide)).trans (Y_main_v1_eq m c),
      ((h.1 c).2.2 main_arg0 (by decide)).trans (V_main_arg0 m c),
      ((h.1 c).2.1 main_arg1 (by decide)).trans ((Y_of_ne m c main_arg1 (by decide)).trans (V_main_arg1 m c))⟩, h.2⟩) (run_main m ρ)

end Cert.Kernel.Roll

end
-- ==== Proof.RunRef.lean ====
/-
  The reference's run: every weakly fair execution of `ReferenceIdeal`'s `main` terminates, with the result array at the rolled
  buffer, the two argument arrays as launched and every semaphore counter at zero. For any float values.
-/
module

public import proofs.«01_k».proof.Proof.Gen.ReferenceIdeal.Run
public import proofs.«01_k».proof.Proof.Roll
public import Idealize.ShloMosaic.Lib.Quiescent

@[expose] public section

noncomputable section

namespace Cert.ReferenceIdeal.Roll

open Cert.ReferenceIdeal Cert.ReferenceIdeal.Gen
open Idealize.ShloMosaic Idealize.ShloMosaic.TcCoe Idealize.SL.Sem

variable {F : FTy → Type} [FloatOps F]

/-- THE RUN: the result ends at the rolled buffer, the arguments as launched, every counter (there is none) at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v2)
        = Cert.Roll.rolled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h c).1.trans (Cert.Roll.reference_eq_rolled _ rfl rfl rfl _ (fun _ => (by decide : (127#32 : BitVec 32).toInt = 127)) _ _ _ _ _), (h c).2⟩,
    sem_eq_zero_of_no_sems rfl r.2⟩) (Value.run m ρ)

end Cert.ReferenceIdeal.Roll

end
-- ==== Proof.lean ====
/-
  The proof of `Cert.Claim` (Defs.lean): the kernel, its idealization and the reference each run with their arguments unchanged and
  every semaphore counter back at zero; the idealization rewrites no operation; and the kernel and the reference end with the same
  result. Both results are `Cert.Roll.rolled` of the arguments (Proof/Roll.lean): the kernel's by Proof/Run.lean (over the run of
  its body, Proof/Body.lean), the reference's by Proof/RunRef.lean.
-/
module

public import proofs.«01_k».proof.Defs
public import proofs.«01_k».proof.Proof.Gen.KernelIdeal
public import proofs.«01_k».proof.Proof.Run
public import proofs.«01_k».proof.Proof.RunRef

@[expose] public section

noncomputable section

namespace Cert.Proof

open Idealize.ShloMosaic Idealize.ShloMosaic.TcCoe Idealize.SL.Sem

/-- The idealization's run. No operation of the kernel is rewritten, so this is the kernel's run at the ideal floats. -/
theorem run_ideal (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_v1)
          = Cert.Roll.rolled (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  Cert.Kernel.Roll.run (F := Ideal) m g

/-- The kernel runs, its arguments unchanged and every counter back at zero. -/
theorem frame_kernel : Cert.quiescent_Kernel := fun m g _ =>
  (θ_run Cert.Kernel.defs _ _).mono (fun _ h => ⟨fun c => (h.1 c).2, h.2⟩) (Cert.Kernel.Roll.run (F := Bits) m g)

/-- The idealization runs, its arguments unchanged and every counter back at zero. -/
theorem frame_kernelIdeal : Cert.quiescent_KernelIdeal := fun m g _ =>
  (θ_run Cert.KernelIdeal.defs _ _).mono (fun _ h => ⟨fun c => (h.1 c).2, h.2⟩) (run_ideal m g)

/-- The reference runs, its arguments unchanged and every counter at zero. -/
theorem frame_referenceIdeal : Cert.quiescent_ReferenceIdeal := fun m g _ =>
  (θ_run Cert.ReferenceIdeal.defs _ _).mono (fun _ h => ⟨fun c => (h.1 c).2, h.2⟩) (Cert.ReferenceIdeal.Roll.run (F := Ideal) m g)

/-- The kernel and the reference, on the same arguments, end with the same result: the rolled buffer. -/
theorem algebraic : Cert.algebraic_KernelIdeal_ReferenceIdeal := fun m g m' g' _ hm =>
  ⟨fun c => Cert.Roll.rolled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h => h.1) (run_ideal m g),
    (θ_run Cert.ReferenceIdeal.defs _ _).mono
      (fun _ h c => ⟨(h.1 c).1.trans (congrArg₂ Cert.Roll.rolled (hm c).1 (hm c).2), (h.1 c).2⟩)
      (Cert.ReferenceIdeal.Roll.run (F := Ideal) m' g')⟩

/-- The certificate's claim. -/
theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
